-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1024x20x128 : Shape := ⟨3, ![1024, 20, 128]⟩
abbrev S1000x128 : Shape := ⟨2, ![1000, 128]⟩
abbrev S_ : Shape := ⟨0, ![]⟩

class Facts : Prop where
  bcast_S_S1024x20x128 : S_.BroadcastsInDim S1024x20x128 (![] : Fin 0 → Fin S1024x20x128.rank)
  bcast_S_S1000x128 : S_.BroadcastsInDim S1000x128 (![] : Fin 0 → Fin S1000x128.rank)

variable [Facts]

def fn {F : FTy → Type} [FloatOps F] (main_arg0 : FVec F S1024x20x128 .f32) (main_arg1 : FVec F S1000x128 .f32) : IVec S1024x20x128 1 × IVec S1000x128 1 :=
  let main_v0 : FVec F S1024x20x128 .f32 := Host.absf main_arg0
  let main_cst : FVec F S_ .f32 := constant S_ .f32 0x7F800000#32
  let main_v1 : FVec F S1024x20x128 .f32 := broadcastInDim S1024x20x128 ![] bcast_S_S1024x20x128 main_cst
  let main_v2 : IVec S1024x20x128 1 := cmpf .olt main_v0 main_v1
  let main_v3 : FVec F S1000x128 .f32 := Host.absf main_arg1
  let main_cst_0 : FVec F S_ .f32 := constant S_ .f32 0x7F800000#32
  let main_v4 : FVec F S1000x128 .f32 := broadcastInDim S1000x128 ![] bcast_S_S1000x128 main_cst_0
  let main_v5 : IVec S1000x128 1 := cmpf .olt main_v3 main_v4
  (main_v2, main_v5)
-- ==== Kernel.lean ====
abbrev S1024x20x128 : Shape := ⟨3, ![1024, 20, 128]⟩
abbrev S1000x128 : Shape := ⟨2, ![1000, 128]⟩
abbrev S20x1024x128 : Shape := ⟨3, ![20, 1024, 128]⟩
abbrev S20x1024 : Shape := ⟨2, ![20, 1024]⟩
abbrev S1024x20 : Shape := ⟨2, ![1024, 20]⟩
abbrev S20480x1 : Shape := ⟨2, ![20480, 1]⟩
abbrev S20x256x128 : Shape := ⟨3, ![20, 256, 128]⟩
abbrev S20x256 : Shape := ⟨2, ![20, 256]⟩
abbrev S20x256x1000 : Shape := ⟨3, ![20, 256, 1000]⟩
abbrev S20x256x1 : Shape := ⟨3, ![20, 256, 1]⟩

abbrev nBuf : Space → Nat
  | .hbm => 6
  | .vmem => 5
  | .smem => 0
  | _ => 0

abbrev bufTy : (tb : Table) → Fin (tcTables nBuf tb) → BufTy
  | .hbm, ⟨0, _⟩ => ⟨S1024x20x128, .f32⟩
  | .hbm, ⟨1, _⟩ => ⟨S1000x128, .f32⟩
  | .hbm, ⟨2, _⟩ => ⟨S20x1024x128, .f32⟩
  | .hbm, ⟨3, _⟩ => ⟨S20x1024, .f32⟩
  | .hbm, ⟨4, _⟩ => ⟨S1024x20, .f32⟩
  | .hbm, ⟨5, _⟩ => ⟨S20480x1, .f32⟩
  | .local _ .vmem, ⟨0, _⟩ => ⟨S20x256x128, .f32⟩
  | .local _ .vmem, ⟨1, _⟩ => ⟨S20x256x128, .f32⟩
  | .local _ .vmem, ⟨2, _⟩ => ⟨S1000x128, .f32⟩
  | .local _ .vmem, ⟨3, _⟩ => ⟨S20x256, .f32⟩
  | .local _ .vmem, ⟨4, _⟩ => ⟨S20x256, .f32⟩
  | _, _ => ⟨S1024x20x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S20x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x20x128 : Shape := ⟨3, ![1024, 20, 128]⟩
abbrev S1000x128 : Shape := ⟨2, ![1000, 128]⟩
abbrev S20480x128 : Shape := ⟨2, ![20480, 128]⟩
abbrev S128x1000 : Shape := ⟨2, ![128, 1000]⟩
abbrev S20480x1000 : Shape := ⟨2, ![20480, 1000]⟩
abbrev S_ : Shape := ⟨0, ![]⟩
abbrev S20480 : Shape := ⟨1, ![20480]⟩
abbrev S20480x1 : Shape := ⟨2, ![20480, 1]⟩

abbrev nBuf : Space → Nat
  | .hbm => 21
  | .vmem => 0
  | .smem => 0
  | _ => 0

abbrev bufTy : (tb : Table) → Fin (tcTables nBuf tb) → BufTy
  | .hbm, ⟨0, _⟩ => ⟨S1024x20x128, .f32⟩
  | .hbm, ⟨1, _⟩ => ⟨S1000x128, .f32⟩
  | .hbm, ⟨2, _⟩ => ⟨S20480x128, .f32⟩
  | .hbm, ⟨3, _⟩ => ⟨S128x1000, .f32⟩
  | .hbm, ⟨4, _⟩ => ⟨S20480x1000, .f32⟩
  | .hbm, ⟨5, _⟩ => ⟨S_, .f32⟩
  | .hbm, ⟨6, _⟩ => ⟨S20480, .f32⟩
  | .hbm, ⟨7, _⟩ => ⟨S_, .f32⟩
  | .hbm, ⟨8, _⟩ => ⟨S20480, .f32⟩
  | .hbm, ⟨9, _⟩ => ⟨S20480, .f32⟩
  | .hbm, ⟨10, _⟩ => ⟨S20480x1, .f32⟩
  | .hbm, ⟨11, _⟩ => ⟨S20480x1000, .f32⟩
  | .hbm, ⟨12, _⟩ => ⟨S20480x1000, .f32⟩
  | .hbm, ⟨13, _⟩ => ⟨S20480x1000, .f32⟩
  | .hbm, ⟨14, _⟩ => ⟨S_, .f32⟩
  | .hbm, ⟨15, _⟩ => ⟨S20480, .f32⟩
  | .hbm, ⟨16, _⟩ => ⟨S20480x1, .f32⟩
  | .hbm, ⟨17, _⟩ => ⟨S20480x1000, .f32⟩
  | .hbm, ⟨18, _⟩ => ⟨S20480x1000, .f32⟩
  | .hbm, ⟨19, _⟩ => ⟨S20480x1, .f32⟩
  | .hbm, ⟨20, _⟩ => ⟨S20480x1, .i32⟩
  | _, _ => ⟨S1024x20x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩

abbrev nD : Nat := 1
abbrev τ : Topo := Topo.v7x

variable {F : FTy → Type} [FloatOps F]
-- ==== Proof.Row.lean ====
/-
  One row of scores: the greatest softmax probability of the row is the reciprocal of the row's sum of exponentials
  measured from its maximum. The kernel computes the reciprocal, the reference the probabilities and their maximum.
-/
module

public import Idealize.ShloMosaic.PureOps.Ideal
public import Mathlib.Data.Finset.Fold

@[expose] public section

noncomputable section

namespace Cert.Proof.Row

open Idealize.ShloMosaic
open scoped BigOperators

variable {n : ℕ}

/-- The greatest score of a row. -/
def peak (s : Fin n → EReal) : EReal := Finset.univ.fold max ⊥ s

/-- The exponential of one score, measured from the row's greatest. -/
def weight (s : Fin n → EReal) (j : Fin n) : EReal := Ideal.exp (s j - peak s)

/-- The sum of the row's weights. -/
def mass (s : Fin n → EReal) : EReal := ∑ j, weight s j

/-- The softmax probability of position `j` of the row. -/
def prob (s : Fin n → EReal) (j : Fin n) : EReal := Ideal.div (weight s j) (mass s)

/-- What the kernel returns for a row: one over the sum of the weights. -/
def best (s : Fin n → EReal) : EReal := Ideal.div 1 (mass s)

/-- Every score is at most the greatest one. -/
theorem le_peak (s : Fin n → EReal) (j : Fin n) : s j ≤ peak s :=
  ((Finset.le_fold_max (s j)).mpr (Or.inr ⟨j, Finset.mem_univ j, le_rfl⟩))

/-- In a row that is not empty the greatest score is one of the scores. -/
theorem exists_eq_peak (s : Fin n → EReal) (hn : 0 < n) : ∃ j, s j = peak s := by
  haveI : Nonempty (Fin n) := ⟨⟨0, hn⟩⟩
  obtain ⟨j, hj⟩ := Finite.exists_max s
  refine ⟨j, le_antisymm (le_peak s j) ?_⟩
  exact (Finset.fold_max_le (s j)).mpr ⟨bot_le, fun i _ => hj i⟩

/-- A sum of real numbers taken among the extended reals is the real sum. -/
theorem coe_sum {ι : Type} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

section Real

variable (r : Fin n → ℝ)

/-- The row of real scores `r`, as extended reals. -/
abbrev real : Fin n → EReal := fun j => (r j : EReal)

/-- A row of real scores has real weights, positive, none above one, and one of them equal to one. -/
theorem weight_real (hn : 0 < n) : ∃ w : Fin n → ℝ, (∀ j, weight (real r) j = (w j : EReal)) ∧ (∀ j, 0 < w j) ∧ (∀ j, w j ≤ 1)
    ∧ ∃ j, w j = 1 := by
  obtain ⟨k, hk⟩ := exists_eq_peak (real r) hn
  refine ⟨fun j => Real.exp (r j - r k), fun j => ?_, fun j => Real.exp_pos _, fun j => ?_, k, by simp⟩
  · unfold weight
    rw [← hk, ← EReal.coe_sub, Ideal.exp_coe]
  · have h : (r j : EReal) ≤ (r k : EReal) := (le_peak (real r) j).trans hk.symm.le
    exact Real.exp_le_one_iff.mpr (sub_nonpos.mpr (EReal.coe_le_coe_iff.mp h))

/-- For a row of real scores no probability exceeds what the kernel returns, and one of them equals it. -/
theorem prob_le_best (hn : 0 < n) : (∀ j, prob (real r) j ≤ best (real r)) ∧ ∃ j, prob (real r) j = best (real r) := by
  obtain ⟨w, hw, hpos, hle, k, hk⟩ := weight_real r hn
  have hmass : mass (real r) = ((∑ j, w j : ℝ) : EReal) := by
    unfold mass
    rw [Finset.sum_congr rfl fun j _ => hw j, coe_sum]
  have hsum : 0 < ∑ j, w j := Finset.sum_pos (fun j _ => hpos j) ⟨k, Finset.mem_univ k⟩
  unfold prob best
  rw [hmass]
  refine ⟨fun j => ?_, k, ?_⟩
  · rw [hw j, Ideal.div_coe hsum.ne', Ideal.div_coe hsum.ne', one_mul, ← EReal.coe_mul]
    refine EReal.coe_le_coe_iff.mpr ?_
    exact mul_le_of_le_one_left (one_div_pos.mpr hsum).le (hle j)
  · rw [hw k, hk]; rfl

end Real

/-- Why the scores must be real numbers: in a row whose scores are all plus infinity the reciprocal of the sum is plus
    infinity and every probability is minus infinity. -/
theorem infinite {n : ℕ} (j : Fin n) :
    best (fun _ : Fin n => (⊤ : EReal)) = ⊤ ∧ prob (fun _ : Fin n => (⊤ : EReal)) j = ⊥ := by
  have hp : peak (fun _ : Fin n => (⊤ : EReal)) = ⊤ := top_le_iff.mp (le_peak (fun _ : Fin n => (⊤ : EReal)) j)
  have hw (k : Fin n) : weight (fun _ : Fin n => (⊤ : EReal)) k = 0 := by
    unfold weight
    rw [hp]
    rfl
  have hm : mass (fun _ : Fin n => (⊤ : EReal)) = 0 := Finset.sum_eq_zero fun k _ => hw k
  unfold best prob
  rw [hw, hm]
  constructor
  · unfold Ideal.div
    rw [if_pos rfl, if_pos zero_lt_one]
  · unfold Ideal.div
    rw [if_pos rfl, if_neg (lt_irrefl _)]

end Cert.Proof.Row

end
-- ==== Proof.Score.lean ====
/-
  The scores of one query against the items, and what the two programs return for it, as plain functions of the two
  argument arrays.
-/
module

public import proofs.«01_k».proof.Proof.Row
public import Idealize.ShloMosaic.Lib.ValueIdx

@[expose] public section

noncomputable section

namespace Cert.Proof.Score

open Idealize.ShloMosaic Idealize.ShloMosaic.ValueIdx
open scoped BigOperators

/-- The scores of one query `q` against every item: item by item, the sum of the products of their entries. -/
def scores (q : Fin 128 → EReal) (items : (⟨2, ![1000, 128]⟩ : Shape).Idx → EReal) : Fin 1000 → EReal :=
  fun j => ∑ k : Fin 128, q k * items (ix2 j k)

/-- The query at user `n` and place `l`. -/
def query (queries : (⟨3, ![1024, 20, 128]⟩ : Shape).Idx → EReal) (n : Fin 1024) (l : Fin 20) : Fin 128 → EReal :=
  fun k => queries (ix3 n l k)

/-- The number both programs return for the query at user `n` and place `l`. -/
def answer (queries : (⟨3, ![1024, 20, 128]⟩ : Shape).Idx → EReal) (items : (⟨2, ![1000, 128]⟩ : Shape).Idx → EReal)
    (n : Fin 1024) (l : Fin 20) : EReal :=
  Row.best (scores (query queries n l) items)

/-- The user of row `r` of the result: rows are laid out user by user, twenty places each. -/
def user (r : Fin 20480) : Fin 1024 := ⟨r.val / 20, by have := r.isLt; omega⟩

/-- The place of row `r` of the result within its user's twenty. -/
def place (r : Fin 20480) : Fin 20 := ⟨r.val % 20, Nat.mod_lt _ (by decide)⟩

/-- The whole result: one column, row by row. -/
def result (queries : (⟨3, ![1024, 20, 128]⟩ : Shape).Idx → EReal) (items : (⟨2, ![1000, 128]⟩ : Shape).Idx → EReal) :
    (⟨2, ![20480, 1]⟩ : Shape).Idx → EReal :=
  fun i => answer queries items (user (i 0)) (place (i 0))

/-- The scores of a real query against real items are real numbers. -/
theorem scores_real (q : Fin 128 → EReal) (items : (⟨2, ![1000, 128]⟩ : Shape).Idx → EReal) (hq : ∀ k, ∃ r : ℝ, q k = (r : EReal))
    (hi : ∀ i, ∃ r : ℝ, items i = (r : EReal)) : ∃ r : Fin 1000 → ℝ, scores q items = Row.real r := by
  choose a ha using hq
  choose b hb using hi
  refine ⟨fun j => ∑ k, a k * b (ix2 j k), funext fun j => ?_⟩
  unfold scores
  refine Eq.trans ?_ (Row.coe_sum Finset.univ fun k => a k * b (ix2 j k))
  exact Finset.sum_congr rfl fun k _ => by rw [ha, hb, EReal.coe_mul]

end Cert.Proof.Score

end
-- ==== Proof.Block.lean ====
/-
  What the kernel's body leaves in its result block, at the ideal values: at place `l` and column `b`, one over the sum of
  the weights of the scores of the block's query there.
-/
module

public import proofs.«01_k».proof.Proof.Score
public import proofs.«01_k».proof.Proof.Gen.KernelIdeal.Frame
public import Idealize.ShloMosaic.Lib.Pipeline.Value
public import Idealize.ShloMosaic.PureOps.Ideal.Laws

@[expose] public section

noncomputable section

namespace Cert.Proof.Block

open Idealize.ShloMosaic Idealize.ShloMosaic.ValueIdx Cert.KernelIdeal Cert.KernelIdeal.Gen
open scoped BigOperators

/-- The body's product: queries of the block against items, contracted over their 128 entries. -/
abbrev D := dot_S20x256x128_S1000x128_S20x256x1000_2_1_01_0_n_n

theorem lhs_0 (i : S20x256x1000.Idx) (q : D.contr.Idx) : (D.lhsIdx i q 0).val = (i 0).val := by
  unfold DotDims.lhsIdx
  rw [dif_neg (show ¬(0 : Fin S20x256x128.rank) ∈ D.lhsBatch by decide), dif_pos (show (0 : Fin S20x256x128.rank) ∈ D.lhsNonContracting by decide)]
  rfl
theorem lhs_1 (i : S20x256x1000.Idx) (q : D.contr.Idx) : (D.lhsIdx i q 1).val = (i 1).val := by
  unfold DotDims.lhsIdx
  rw [dif_neg (show ¬(1 : Fin S20x256x128.rank) ∈ D.lhsBatch by decide), dif_pos (show (1 : Fin S20x256x128.rank) ∈ D.lhsNonContracting by decide)]
  rfl
theorem lhs_2 (i : S20x256x1000.Idx) (q : D.contr.Idx) : (D.lhsIdx i q 2).val = (q ⟨0, by decide⟩).val :=
  D.lhsIdx_val_of_single rfl i q
theorem rhs_0 (i : S20x256x1000.Idx) (q : D.contr.Idx) : (D.rhsIdx i q 0).val = (i 2).val := by
  unfold DotDims.rhsIdx
  rw [dif_neg (show ¬(0 : Fin S1000x128.rank) ∈ D.rhsBatch by decide), dif_pos (show (0 : Fin S1000x128.rank) ∈ D.rhsNonContracting by decide)]
  rfl
theorem rhs_1 (i : S20x256x1000.Idx) (q : D.contr.Idx) : (D.rhsIdx i q 1).val = (q ⟨0, by decide⟩).val :=
  D.rhsIdx_val_of_single rfl i q

variable (x0 : FVec Ideal S20x256x128 .f32) (x1 : FVec Ideal S1000x128 .f32)

/-- The query of the block at place `l` and column `b`. -/
def blockQuery (l : Fin 20) (b : Fin 256) : Fin 128 → EReal := fun k => x0 (ix3 l b k)

/-- The product read at an index: the score of the block's query there against item `j`. -/
theorem product_apply (l : Fin 20) (b : Fin 256) (j : Fin 1000) :
    matmul D none x0 x1 (constant S20x256x1000 .f32 0x00000000#32) (ix3 l b j) = Score.scores (blockQuery x0 l b) x1 j := by
  unfold Score.scores blockQuery
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix3 l b j) ((contrEquiv1 D 128 rfl rfl).symm k) = ix3 l b k := funext fun a => Fin.ext (by
    match a with
    | ⟨0, _⟩ => exact lhs_0 _ _
    | ⟨1, _⟩ => exact lhs_1 _ _
    | ⟨2, _⟩ => exact (lhs_2 _ _).trans hk)
  have er : D.rhsIdx (ix3 l b j) ((contrEquiv1 D 128 rfl rfl).symm k) = ix2 j k := funext fun a => Fin.ext (by
    match a with
    | ⟨0, _⟩ => exact rhs_0 _ _
    | ⟨1, _⟩ => exact (rhs_1 _ _).trans hk)
  rw [el, er]

/-- Inserting a coordinate on the last axis of a block index. -/
theorem lift_eq (h : S20x256x1000.Reduces [2] S20x256) (l : Fin 20) (b : Fin 256) (k : Fin 1000) :
    h.lift (ix2 l b) k = ix3 l b k := funext fun a => Fin.ext (by
  match a with
  | ⟨0, _⟩ => rfl
  | ⟨1, _⟩ => rfl
  | ⟨2, _⟩ => rfl)

/-- The words for minus infinity, zero and one, as extended reals. -/
theorem negInf : (FloatOps.ofBits .f32 0xFF800000#32 : Ideal .f32) = (⊥ : EReal) := by
  show Ideal.ofBits .f32 0xFF800000#32 = ⊥
  simp [Ideal.ofBits, Ideal.ieee]
theorem one : (Scalar.ofBits .f32 0x3F800000#32 : Ideal .f32) = (1 : EReal) := by
  show Ideal.ofBits .f32 0x3F800000#32 = 1
  simp [Ideal.ofBits, Ideal.ieee, -EReal.coe_mul]
  norm_num

/-- The last axis's maximum read at an index: the greatest entry of that row. -/
theorem max_apply (v : FVec Ideal S20x256x1000 .f32) (h : S20x256x1000.Reduces [2] S20x256) (hφ : FKind.Formats .f32)
    (hacc : (0xFF800000#32 : BitVec 32) = FKind.maximumf.neutral .f32 hφ) (l : Fin 20) (b : Fin 256) :
    multiReduction .maximumf [2] S20x256 v 0xFF800000#32 h hφ hacc (ix2 l b) = Row.peak (fun j : Fin 1000 => v (ix3 l b j)) := by
  rw [Ideal.multiReduction_maximumf_single, negInf]
  unfold Row.peak
  exact congrArg (fun f => Finset.fold max ⊥ f Finset.univ) (funext fun k => congrArg v (lift_eq h l b k))

/-- The last axis's sum read at an index: the sum of that row. -/
theorem sum_apply (v : FVec Ideal S20x256x1000 .f32) (h : S20x256x1000.Reduces [2] S20x256) (hφ : FKind.Formats .f32)
    (hacc : (0x00000000#32 : BitVec 32) = FKind.add.neutral .f32 hφ) (l : Fin 20) (b : Fin 256) :
    multiReduction .add [2] S20x256 v 0x00000000#32 h hφ hacc (ix2 l b) = ∑ j : Fin 1000, (v (ix3 l b j) : EReal) := by
  rw [Ideal.multiReduction_add_single]
  exact Finset.sum_congr rfl fun k _ => congrArg v (lift_eq h l b k)

/-- Every row's number repeated along the last axis, read at an index. -/
theorem spread_apply (v : FVec Ideal S20x256 .f32) (l : Fin 20) (b : Fin 256) (j : Fin 1000) :
    broadcastTo S20x256x1000 (shapeCast S20x256x1 v shapeCasts_S20x256_S20x256x1) broadcasts_S20x256x1_S20x256x1000 (ix3 l b j)
      = v (ix2 l b) := by
  rw [broadcastTo_apply _ broadcasts_S20x256x1_S20x256x1000 (ix3 l b j) (ix3 l b (0 : Fin 1)) (fun a => by
    match a with
    | ⟨0, _⟩ => rfl
    | ⟨1, _⟩ => rfl
    | ⟨2, _⟩ => rfl)]
  exact shapeCast_apply v shapeCasts_S20x256_S20x256x1 (ix3 l b (0 : Fin 1)) (ix2 l b)
    (by rewrite [Shape.rowMajor_val_three, Shape.rowMajor_val_two]; show l.val * 256 + b.val = (l.val * 256 + b.val) * 1 + 0; omega)

/-- The body's result at place `l` and column `b`: one over the sum of the weights of the scores there. -/
theorem payload_apply (l : Fin 20) (b : Fin 256) :
    k0_pay1 (F := Ideal) x0 x1 (ix2 l b) = Row.best (Score.scores (blockQuery x0 l b) x1) := by
  have hs : ∀ j : Fin 1000, matmul D none (shapeCast S20x256x128 x0 shapeCasts_S20x256x128_S20x256x128) x1
      (constant S20x256x1000 .f32 0x00000000#32) (ix3 l b j) = Score.scores (blockQuery x0 l b) x1 j := fun j => by
    rw [shapeCast_self]; exact product_apply x0 x1 l b j
  unfold k0_pay1 Row.best Row.mass Row.weight
  dsimp only
  refine (congrArg₂ Ideal.div one (sum_apply _ _ _ _ l b)).trans (congrArg (Ideal.div 1) (Finset.sum_congr rfl fun j _ => ?_))
  exact congrArg Ideal.exp (congrArg₂ (fun a c : EReal => a - c) (hs j)
    ((spread_apply _ l b j).trans ((max_apply _ _ _ _ l b).trans (congrArg Row.peak (funext hs)))))

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- What the body leaves in its result block is that function of the two blocks it reads. -/
theorem out_apply (l : Fin 20) (b : Fin 256) :
    out0_2 (F := Ideal) x0 x1 (ix2 l b) = Row.best (Score.scores (blockQuery x0 l b) x1) := by
  unfold out0_2
  rw [View.canon_unit_zero zero_offsets2, View.ld_unit_zero (S := S20x256x128) zero_offsets3, View.ld_unit_zero (S := S1000x128) zero_offsets2]
  exact payload_apply x0 x1 l b

end Cert.Proof.Block

end
-- ==== Proof.Array.lean ====
/-
  What the kernel's result array and the program's result hold after the run, at the ideal values.
-/
module

public import proofs.«01_k».proof.Proof.Block
public import Idealize.ShloMosaic.Lib.Pipeline.ValueKit.Geometry

@[expose] public section

noncomputable section

namespace Cert.Proof.Array

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- The two argument arrays as launched. -/
abbrev queries (c : Dev nD) : S1024x20x128.Idx → EReal := m ((c.tc : Thread nD τ).loc main_arg0)
abbrev items (c : Dev nD) : S1000x128.Idx → EReal := m ((c.tc : Thread nD τ).loc main_arg1)

/-- The kernel finds the queries with the first two axes exchanged. -/
theorem entry_queries (c : Dev nD) : V m c main_call0_v0
    = transpose S20x1024x128 [1, 0, 2] (queries m c) transposes_S1024x20x128_S20x1024x128_1_0_2 := by
  show StableHlo.after (List.flatten [hostOps0]) (fun b => m (c, b)) (Proc.devRef .tc main_call0_v0) = _
  simp only [List.flatten_cons, List.flatten_nil, List.append_nil]
  after_results
  rfl

/-- Read at an index. -/
theorem entry_queries_apply (c : Dev nD) (l : Fin 20) (n : Fin 1024) (k : Fin 128) :
    (V m c main_call0_v0 : S20x1024x128.Idx → EReal) (ix3 l n k) = queries m c (ix3 n l k) := by
  rw [entry_queries]
  exact transpose_apply [1, 0, 2] (queries m c) transposes_S1024x20x128_S20x1024x128_1_0_2 (ix3 l n k) (ix3 n l k)
    (fun b => match b with
      | ⟨0, _⟩ => rfl
      | ⟨1, _⟩ => rfl
      | ⟨2, _⟩ => rfl)

/-- The array the kernel is to write: at place `l` and user `n`, the answer for that query. -/
def table (c : Dev nD) : S20x1024.Idx → EReal := fun i => Score.answer (queries m c) (items m c) (i 1) (i 0)

theorem index_0 : ∀ t : Fin cfg0.N, win0_0.index t = ![0, t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, t.val] := (by decide +kernel : ∀ t : Fin grid0.N, _)

/-- Column `b` of the block at point `t` is user `256 t + b`. -/
def userAt (t : Fin cfg0.N) (b : Fin 256) : Fin 1024 :=
  ⟨t.val * 256 + b.val, by have : t.val < 4 := Nat.lt_of_lt_of_eq t.isLt N_0; have := b.isLt; omega⟩

/-- The block of queries at point `t`, read at an index. -/
theorem block_0 (c : Dev nD) (t : Fin cfg0.N) (l : Fin 20) (b : Fin 256) (k : Fin 128) :
    (iblk m c 0 t : S20x256x128.Idx → EReal) (ix3 l b k) = queries m c (ix3 (userAt t b) l k) := by
  rw [← entry_queries_apply]
  refine congrArg (V m c main_call0_v0 : S20x1024x128.Idx → EReal) (funext fun a => Fin.ext ?_)
  match a with
  | ⟨0, _⟩ => exact (win0_0.rect_emb_val t _ 0).trans (by rw [index_0]; show 0 * 20 + l.val = l.val; omega)
  | ⟨1, _⟩ => exact (win0_0.rect_emb_val t _ 1).trans (by rw [index_0]; rfl)
  | ⟨2, _⟩ => exact (win0_0.rect_emb_val t _ 2).trans (by rw [index_0]; show 0 * 128 + k.val = k.val; omega)

/-- The block of items at every point is the whole array. -/
theorem block_1 (c : Dev nD) (t : Fin cfg0.N) : (iblk m c 1 t : S1000x128.Idx → EReal) = items m c := by
  funext i
  have e : (iblk m c 1 t : S1000x128.Idx → EReal) i = (V m c main_arg1 : S1000x128.Idx → EReal) i := by
    refine congrArg (V m c main_arg1 : S1000x128.Idx → EReal) (funext fun a => Fin.ext ?_)
    match a with
    | ⟨0, _⟩ => exact (win0_1.rect_emb_val t _ 0).trans (by rw [index_1]; show 0 * 1000 + (i 0).val = (i 0).val; omega)
    | ⟨1, _⟩ => exact (win0_1.rect_emb_val t _ 1).trans (by rw [index_1]; show 0 * 128 + (i 1).val = (i 1).val; omega)
  rw [e]
  exact congrFun (V_main_arg1 m c) i

/-- What the body leaves at point `t` is the table's block there. -/
theorem left (c : Dev nD) (t : Fin cfg0.N) (l : Fin 20) (b : Fin 256) :
    ((dats m 0 c).after 2 t : S20x256.Idx → EReal) (ix2 l b) = table m c (ix2 l (userAt t b)) := by
  rw [after0_2]
  refine (Block.out_apply _ _ l b).trans ?_
  rw [block_1]
  unfold table Score.answer
  refine congrArg (fun q => Row.best (Score.scores q (items m c))) (funext fun k => ?_)
  exact block_0 m c t l b k

/-- So the kernel's result array ends holding the table. -/
theorem final (c : Dev nD) : (dats m 0 c).arrAt 2 cfg0.N = table m c := by
  refine (dats m 0 c).arrAt_eq_of_covers 2 _ (by decide +kernel) fun t _ y => ?_
  have ey : y = ix2 (y 0) (y 1) := funext fun a => match a with
    | ⟨0, _⟩ => rfl
    | ⟨1, _⟩ => rfl
  refine Eq.trans (?_ : _ = ((dats m 0 c).after 2 t : S20x256.Idx → EReal) (ix2 (y 0) (y 1))) ((left m c t (y 0) (y 1)).trans ?_)
  · exact congrArg ((dats m 0 c).after 2 t : S20x256.Idx → EReal) ey
  · refine congrArg (table m c) (funext fun a => Fin.ext ?_)
    match a with
    | ⟨0, _⟩ => exact ((win0_2.rect_emb_val t y 0).trans (by rw [index_2]; show 0 * 20 + (y 0).val = (y 0).val; omega)).symm
    | ⟨1, _⟩ => exact ((win0_2.rect_emb_val t y 1).trans (by rw [index_2]; rfl)).symm

/-- After the two host operations that follow the kernel the program's result is the table turned, as one column. -/
theorem tail (c : Dev nD) : Pipeline.afterTail₀ cfgs (dats m) 0 (V0 m) [hostOps1] c main_v0
    = shapeCast S20480x1 (transpose S1024x20 [1, 0] (table m c) transposes_S20x1024_S1024x20_1_0) shapeCasts_S1024x20_S20480x1 := by
  unfold Pipeline.afterTail₀
  simp only [List.flatten_cons, List.flatten_nil, List.append_nil]
  after_results
  have h := Pipeline.withArrays_arr (cfgs 0).spec (by decide) c (V0 m c) (fun w => (dats m 0 c).arrAt w (cfgs 0).N) 2
  exact congrArg (fun x : S20x1024.Idx → EReal =>
    shapeCast S20480x1 (transpose S1024x20 [1, 0] x transposes_S20x1024_S1024x20_1_0) shapeCasts_S1024x20_S20480x1)
    (h.trans (final m c))

/-- That column is the stated result. -/
theorem column (c : Dev nD) :
    (shapeCast S20480x1 (transpose S1024x20 [1, 0] (table m c) transposes_S20x1024_S1024x20_1_0) shapeCasts_S1024x20_S20480x1 : S20480x1.Idx → EReal)
      = Score.result (queries m c) (items m c) := by
  funext i
  have h0 : (i 0).val < 20480 := (i 0).isLt
  have h1 : (i 1).val < 1 := (i 1).isLt
  rw [shapeCast_apply _ shapeCasts_S1024x20_S20480x1 i (ix2 (Score.user (i 0)) (Score.place (i 0))) (by
    rewrite [Shape.rowMajor_val_two, Shape.rowMajor_val_two]
    show (i 0).val / 20 * 20 + (i 0).val % 20 = (i 0).val * 1 + (i 1).val
    omega)]
  exact transpose_apply [1, 0] (table m c) transposes_S20x1024_S1024x20_1_0 _ (ix2 (Score.place (i 0)) (Score.user (i 0)))
    (fun b => match b with
      | ⟨0, _⟩ => rfl
      | ⟨1, _⟩ => rfl)

/-- The run: the result holds the stated column, and the arguments are unchanged. -/
theorem run : θ_run defs (onTc (τ := τ) (main (F := Ideal))) ⟨m, fun _ => 0, ρ⟩ (fun r => ∀ c : Dev nD,
      r.2.mem ((c.tc : Thread nD τ).loc main_v0) = Score.result (queries m c) (items m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v0 (Pipeline.mem_restRefs_of main_v0 (by decide) (by decide))).trans ((tail m c).trans (column m c)),
      (h.2 c).1, (h.2 c).2⟩)
    (θ_run_and (run_main m ρ) (unchanged m ρ))

end Cert.Proof.Array

end
-- ==== Proof.TopOne.lean ====
/-
  The first of a row's elements sorted from the greatest down is the row's greatest element: what a `top_k` with `k = 1`
  returns at the ideal values.
-/
module

public import Idealize.ShloMosaic.PureOps.Ideal
public import Idealize.ShloMosaic.Lib.SortFacts
public import Idealize.ShloMosaic.Lib.Pipeline.Value
public import Idealize.ShloMosaic.Lib.ValueIdx

@[expose] public section

noncomputable section

namespace Cert.Proof.TopOne

open Idealize.ShloMosaic Idealize.ShloMosaic.ValueIdx

/-- The comparison `top_k` sorts by holds exactly when its left operand is the greater. -/
theorem gt_iff {φ : FTy} (x y : Ideal φ) : FloatOps.cmpfTotal .gt x y = 1#1 ↔ (y : EReal) < x := by
  show Ideal.cmp .ogt x y = 1#1 ↔ _
  unfold Ideal.cmp
  by_cases h : (y : EReal) < x <;> simp [h]

/-- Sorting positions by the greater element first puts a greatest element at position zero. -/
theorem sortedFrom_zero {n : ℕ} (hn : 0 < n) (x : Fin n → EReal) (B : Fin n → Fin n → Bool)
    (hB : ∀ a b, B a b = true ↔ x b < x a) (k : Fin n) : x k ≤ x (sortedFrom B ⟨0, hn⟩) := by
  obtain ⟨j, rfl⟩ := sortedFrom_surjective B k
  by_cases hj : j = ⟨0, hn⟩
  · rw [hj]
  · have hlt : (⟨0, hn⟩ : Fin n) < j := by
      show 0 < j.val
      exact Nat.pos_of_ne_zero fun e => hj (Fin.ext e)
    have hF : ∀ a b, B a b = false ↔ x a ≤ x b := fun a b => by
      rw [← Bool.not_eq_true, hB, not_lt]
    have := sortedFrom_noInversion B B (fun a b h => (hF b a).mpr ((hB a b).mp h).le) (fun _ _ h => h)
      (fun a b c h h' => (hF a c).mpr (((hF a b).mp h).trans ((hF b c).mp h'))) ⟨0, hn⟩ j hlt
    exact (hF _ _).mp this

/-- `top_k` with `k = 1` along the second axis of a two-axis array: at row `r` it returns the value `v` that is an element
    of the row and at least every element of the row. -/
theorem topK_one {a b : ℕ} {φ : FTy} (hb : 0 < b) (x : FVec Ideal ⟨2, ![a, b]⟩ φ)
    (h : (⟨2, ![a, b]⟩ : Shape).Slices (fun _ => 0) (⟨2, ![a, 1]⟩ : Shape)) (r : Fin a) (v : EReal)
    (hle : ∀ k : Fin b, (x (ix2 r k) : EReal) ≤ v) (hex : ∃ k : Fin b, (x (ix2 r k) : EReal) = v) :
    (Host.topK (⟨2, ![a, 1]⟩ : Shape) 1 (FloatOps.cmpfTotal .gt) x h).1 (ix2 r (0 : Fin 1)) = v := by
  unfold Host.topK
  dsimp only
  refine (extractStridedSlice_apply (s := (⟨2, ![a, b]⟩ : Shape)) (fun _ => 0) _ h (ix2 r (0 : Fin 1))
    (ix2 r (⟨0, hb⟩ : Fin b)) (fun c => by
      match c with
      | ⟨0, _⟩ => show r.val = 0 + r.val; omega
      | ⟨1, _⟩ => rfl)).trans ?_
  unfold Host.sort2
  rw [dif_pos (show 1 < (⟨2, ![a, b]⟩ : Shape).rank from Nat.lt_succ_self 1)]
  have hal : ∀ k : Fin b, (ix2 r (⟨0, hb⟩ : Fin b) : (⟨2, ![a, b]⟩ : Shape).Idx).along (1 : Fin 2) k = ix2 r k := fun k => by
    funext c
    match c with
    | ⟨0, _⟩ => rfl
    | ⟨1, _⟩ => rfl
  show x ((ix2 r (⟨0, hb⟩ : Fin b) : (⟨2, ![a, b]⟩ : Shape).Idx).along (1 : Fin 2) (sortedFrom (n := b) (fun k k' =>
    FloatOps.cmpfTotal .gt (x ((ix2 r (⟨0, hb⟩ : Fin b) : (⟨2, ![a, b]⟩ : Shape).Idx).along (1 : Fin 2) k))
      (x ((ix2 r (⟨0, hb⟩ : Fin b) : (⟨2, ![a, b]⟩ : Shape).Idx).along (1 : Fin 2) k')) == 1#1) ⟨0, hb⟩)) = v
  simp only [hal]
  refine le_antisymm (hle _) ?_
  obtain ⟨k, hk⟩ := hex
  rw [← hk]
  refine sortedFrom_zero hb (fun k => x (ix2 r k)) _ (fun p q => ?_) k
  rw [beq_iff_eq, gt_iff]

end Cert.Proof.TopOne

end
-- ==== Proof.RefRow.lean ====
/-
  What the reference returns, at the ideal values, when every score is a real number: row by row, the greatest softmax
  probability, which is one over the sum of the weights.
-/
module

public import proofs.«01_k».proof.Proof.Score
public import proofs.«01_k».proof.Proof.TopOne
public import proofs.«01_k».proof.Proof.Gen.ReferenceIdeal.Read

@[expose] public section

noncomputable section

namespace Cert.Proof.RefRow

open Idealize.ShloMosaic Idealize.ShloMosaic.ValueIdx
open Cert.ReferenceIdeal Cert.ReferenceIdeal.Gen Cert.ReferenceIdeal.Read
open scoped BigOperators

variable (x0 : S1024x20x128.Idx → EReal) (x1 : S1000x128.Idx → EReal)

/-- Row `r` of the scores. -/
abbrev row (r : Fin 20480) : Fin 1000 → EReal := Score.scores (Score.query x0 (Score.user r) (Score.place r)) x1

/-- The reference's matrix of scores, read at an index. -/
theorem scores_apply (r : Fin 20480) (j : Fin 1000) : val_main_v2 (F := Ideal) x0 x1 (ix2 r j) = row x0 x1 r j := by
  rw [val_main_v2_apply]
  refine Finset.sum_congr rfl fun k _ => ?_
  rw [val_main_v0_apply, val_main_v1_apply]
  have hr := r.isLt
  have hk := k.isLt
  refine congrArg₂ (fun a b : EReal => a * b) (congrArg x0 (funext fun a => Fin.ext ?_)) (congrArg x1 (funext fun a => Fin.ext ?_))
  · match a with
    | ⟨0, _⟩ => show (r.val * 128 + k.val) / 2560 = r.val / 20; omega
    | ⟨1, _⟩ => show (r.val * 128 + k.val) / 128 % 20 = r.val % 20; omega
    | ⟨2, _⟩ => show (r.val * 128 + k.val) % 128 = k.val; omega
  · match a with
    | ⟨0, _⟩ => rfl
    | ⟨1, _⟩ => rfl

/-- The words for minus infinity and zero, as extended reals. -/
theorem negInf : (FloatOps.ofBits .f32 0xFF800000#32 : Ideal .f32) = (⊥ : EReal) := by
  show Ideal.ofBits .f32 0xFF800000#32 = ⊥
  simp [Ideal.ofBits, Ideal.ieee]
theorem zero : (FloatOps.ofBits .f32 0x00000000#32 : Ideal .f32) = (0 : EReal) := by
  show Ideal.ofBits .f32 0x00000000#32 = 0
  simp [Ideal.ofBits, Ideal.ieee]

/-- Each row's maximum is its greatest score. -/
theorem max_apply (r : Fin 20480) : val_main_v3 (F := Ideal) x0 x1 (ix1 r) = Row.peak (row x0 x1 r) := by
  unfold val_main_v3
  refine (Host.reduce_eq_fold_single (fun a b : EReal => max a b) (val_main_v2 (F := Ideal) x0 x1) (val_main_cst (F := Ideal))
    reducesTo_S20480x1000_S20480_d1 (by decide) h_S_ (ix1 r)).trans ?_
  rw [val_main_cst_apply, negInf]
  unfold Row.peak
  refine congrArg (fun f => Finset.fold max ⊥ f Finset.univ) (funext fun k => ?_)
  refine Eq.trans (congrArg (val_main_v2 (F := Ideal) x0 x1) (funext fun a => Fin.ext ?_)) (scores_apply x0 x1 r k)
  match a with
  | ⟨0, _⟩ => rfl
  | ⟨1, _⟩ => rfl

/-- The matrix of weights, read at an index. -/
theorem weight_apply (r : Fin 20480) (j : Fin 1000) : val_main_v9 (F := Ideal) x0 x1 (ix2 r j) = Row.weight (row x0 x1 r) j := by
  rw [val_main_v9_apply, val_main_v8_apply, val_main_v7_apply, val_main_v6_apply, val_main_v5_apply, val_main_v4_apply,
    val_main_cst_0_apply, negInf]
  unfold Row.weight
  have e : (idx_main_v6 (idx_main_v7 (ix2 r j)) : S20480.Idx) = ix1 r := funext fun a => match a with | ⟨0, _⟩ => rfl
  rw [e, max_apply, scores_apply]
  show Ideal.exp (row x0 x1 r j - max ⊥ (Row.peak (row x0 x1 r))) = _
  rw [max_eq_right bot_le]

/-- Each row's sum is the sum of its weights. -/
theorem mass_apply (r : Fin 20480) : val_main_v10 (F := Ideal) x0 x1 (ix1 r) = Row.mass (row x0 x1 r) := by
  rw [val_main_v10_apply, val_main_cst_1_apply, zero, zero_add]
  unfold Row.mass
  refine Finset.sum_congr rfl fun k _ => Eq.trans (congrArg (val_main_v9 (F := Ideal) x0 x1) (funext fun a => Fin.ext ?_)) (weight_apply x0 x1 r k)
  match a with
  | ⟨0, _⟩ => rfl
  | ⟨1, _⟩ => rfl

/-- The matrix of probabilities, read at an index. -/
theorem prob_apply (r : Fin 20480) (j : Fin 1000) : val_main_v13 (F := Ideal) x0 x1 (ix2 r j) = Row.prob (row x0 x1 r) j := by
  rw [val_main_v13_apply, weight_apply, val_main_v12_apply, val_main_v11_apply]
  have e : (idx_main_v11 (idx_main_v12 (ix2 r j)) : S20480.Idx) = ix1 r := funext fun a => match a with | ⟨0, _⟩ => rfl
  rw [e, mass_apply]
  rfl

/-- With every entry of both arguments a real number the reference returns the stated column. -/
theorem values_eq (h0 : ∀ i, ∃ r : ℝ, x0 i = (r : EReal)) (h1 : ∀ i, ∃ r : ℝ, x1 i = (r : EReal)) :
    val_main_values (F := Ideal) x0 x1 = Score.result x0 x1 := by
  funext i
  have hi : i = ix2 (i 0 : Fin 20480) (0 : Fin 1) := funext fun a => Fin.ext (by
    match a with
    | ⟨0, _⟩ => rfl
    | ⟨1, _⟩ => show (i 1).val = 0; have : (i 1).val < 1 := (i 1).isLt; omega)
  obtain ⟨r, hr⟩ := Score.scores_real (Score.query x0 (Score.user (i 0)) (Score.place (i 0))) x1 (fun k => h0 _) h1
  obtain ⟨hle, k, hk⟩ := Row.prob_le_best r (by decide)
  have ep (j : Fin 1000) : val_main_v13 (F := Ideal) x0 x1 (ix2 (i 0 : Fin 20480) j) = Row.prob (Row.real r) j :=
    (prob_apply x0 x1 (i 0 : Fin 20480) j).trans (congrArg (fun s => Row.prob s j) hr)
  have eb : Score.result x0 x1 i = Row.best (Row.real r) := by
    unfold Score.result Score.answer
    rw [hr]
  rw [eb]
  unfold val_main_values
  refine (congrArg _ hi).trans ?_
  exact TopOne.topK_one (by decide) (val_main_v13 (F := Ideal) x0 x1) sliceFits_S20480x1000_S20480x1 (i 0 : Fin 20480) _
    (fun j => (ep j).le.trans (hle j)) ⟨k, (ep k).trans hk⟩

end Cert.Proof.RefRow

end
-- ==== Proof.Finite.lean ====
/-
  What the precondition says at the ideal values: every entry of both arguments is a real number.
-/
module

public import proofs.«01_k».proof.Pre_finite_inputs
public import proofs.«01_k».proof.Proof.Gen.Pre_finite_inputs
public import Idealize.ShloMosaic.PureOps.Ideal
public import Idealize.ShloMosaic.Lib.Pointwise.Select

@[expose] public section

noncomputable section

namespace Cert.Proof.Finite

open Idealize.ShloMosaic Idealize.SL.Sem

/-- The word the precondition compares with is plus infinity. -/
theorem posInf : (FloatOps.ofBits .f32 0x7F800000#32 : Ideal .f32) = (⊤ : EReal) := by
  show Ideal.ofBits .f32 0x7F800000#32 = ⊤
  simp [Ideal.ofBits, Ideal.ieee]

/-- A value whose magnitude is below plus infinity is a real number. -/
theorem real_of_abs_lt (x : EReal) (h : max x (-x) < ⊤) : ∃ r : ℝ, x = (r : EReal) := by
  induction x using EReal.rec with
  | bot => simp at h
  | coe r => exact ⟨r, rfl⟩
  | top => simp at h

/-- An entry the comparison passes is a real number. -/
theorem real_of_passed (x : EReal) (h : Ideal.cmp .olt (max x (-x)) ⊤ = 1#1) : ∃ r : ℝ, x = (r : EReal) := by
  refine real_of_abs_lt x ?_
  by_contra hn
  rw [Ideal.cmp_olt, decide_eq_false hn] at h
  exact absurd h (by decide)

/-- Under the precondition every entry of the queries is a real number. -/
theorem queries_real (x0 : FVec Ideal ⟨3, ![1024, 20, 128]⟩ .f32) (x1 : FVec Ideal ⟨2, ![1000, 128]⟩ .f32)
    (h : (Cert.Pre_finite_inputs.fn (F := Ideal) x0 x1).1 = fun _ => 1#1) (i : Cert.Pre_finite_inputs.S1024x20x128.Idx) :
    ∃ r : ℝ, x0 i = (r : EReal) := by
  refine real_of_passed (x0 i) (Eq.trans ?_ (congrFun h i))
  rw [← posInf]
  rfl

/-- And so is every entry of the items. -/
theorem items_real (x0 : FVec Ideal ⟨3, ![1024, 20, 128]⟩ .f32) (x1 : FVec Ideal ⟨2, ![1000, 128]⟩ .f32)
    (h : (Cert.Pre_finite_inputs.fn (F := Ideal) x0 x1).2 = fun _ => 1#1) (i : Cert.Pre_finite_inputs.S1000x128.Idx) :
    ∃ r : ℝ, x1 i = (r : EReal) := by
  refine real_of_passed (x1 i) (Eq.trans ?_ (congrFun h i))
  rw [← posInf]
  rfl

end Cert.Proof.Finite

end
-- ==== Proof.lean ====
/-
  The proof of `Cert.Claim`. The two kernel frames are the generated ones; the reference's frame follows from its run; the
  value claim puts together the kernel's run (Proof/Array.lean), the reference's result (Proof/RefRow.lean) and what the
  precondition says (Proof/Finite.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Array
public import proofs.«01_k».proof.Proof.RefRow
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The reference runs, leaves its arguments as they were, and ends with every semaphore at zero. -/
theorem reference_frame : Cert.quiescent_ReferenceIdeal := fun m ρ _ =>
  (θ_run Cert.ReferenceIdeal.defs _ _).mono (fun r h => ⟨fun c => ⟨(h c).2.1, (h c).2.2⟩,
      Idealize.ShloMosaic.sem_eq_zero_of_no_sems (by decide) r.2⟩)
    (Cert.ReferenceIdeal.Value.run (F := Ideal) m ρ)

/-- With finite arguments the kernel and the reference end with the same column: for every query, one over the sum of the
    weights of its scores. -/
theorem algebraic : Cert.algebraic_KernelIdeal_ReferenceIdeal_pre_finite_inputs := fun m ρ m' ρ' hp ha =>
  ⟨fun c => Score.result (Array.queries m c) (Array.items m c), Array.run m ρ,
    (θ_run Cert.ReferenceIdeal.defs _ _).mono (fun _ h c => ⟨(h c).1.trans (by
        rw [(ha c).1, (ha c).2]
        exact (Cert.ReferenceIdeal.Read.val_main_values_eq (F := Ideal) _ _).trans
          (RefRow.values_eq _ _ (Finite.queries_real _ _ (hp c).1) (Finite.items_real _ _ (hp c).2))), (h c).2⟩)
      (Cert.ReferenceIdeal.Value.run (F := Ideal) m' ρ')⟩

/-- Everything the certificate claims. -/
theorem claim : Cert.Claim := ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, algebraic⟩

end Cert.Proof

end
